-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0_i32_8 : BitVec 32 := 0#32
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32 : BitVec 32 := 256#32
  let v17 : BitVec 32 := Scalar.muli v9 c256_i32
  ![0, 0, v17.toNat]
def k0_dev2 (d0 : Dev nD) : Nat :=
  let c0_i32_10 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_9 : BitVec 32 := 16#32
  let v18 : BitVec 32 := Scalar.muli v9 c16_i32_9
  let v19 : BitVec 32 := Scalar.addi c0_i32_10 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Protocol.lean ====
/-
  The exchange protocol of the kernel.

  The 2 × 4 × 4 mesh is a set of sixteen pairs: a device and the one with the other `x` coordinate. In a pair each
  device announces itself on the other's barrier semaphore, waits for the other's announcement, copies the half of its
  block that the other one needs into the other's receive buffer, waits for the half it needs itself, adds, and waits
  until its own copy has been read out.

  Three semaphores of every device take part, numbered by `Fin 3`: 0 the barrier, 1 the one that counts what the
  device's own copy has read, 2 the one that counts what has arrived. Each is raised exactly once. This module says by
  whom, by how much, and which memory changes hands with the raise; and gives the order (barrier before arrival) that
  excludes a deadlock.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The logic's state: one copy of the rounds for the block pipeline, one for the exchange -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The pairs -/

set_option backward.proofsInPublic true in
/-- The device with the other `x` coordinate and the same `y` and `z`: sixteen places on, modulo the 32 devices. -/
def mate (c : Dev nD) : Dev nD := ⟨(c.val + 16) % 32, Nat.mod_lt _ (by decide)⟩

theorem mate_mate (c : Dev nD) : mate (mate c) = c := by revert c; decide

/-- The device the kernel signals is the mate; -/
theorem signalled_eq (c : Dev nD) : (⟨k0_dev1 c, k0_dev1_lt c⟩ : Dev nD) = mate c := by revert c; decide +kernel
/-- and so is the device it copies to. -/
theorem target_eq (c : Dev nD) : (⟨k0_dev2 c, k0_dev2_lt c⟩ : Dev nD) = mate c := by revert c; decide +kernel

/-! ## The buffers -/

/-- The staged block of `x`, the staged result block, and the receive buffer. -/
abbrev xM : Memref sig .tc .vmem S1x256x512 .f32 := Memref.whole cc0_stg0_0
abbrev oM : Memref sig .tc .vmem S256x256 .f32 := Memref.whole cc0_stg1_0
abbrev inM : Memref sig .tc .vmem S256x256 .f32 := Memref.whole cc0_scratch0

/-- The half of the staged block that device `c` copies to its mate: 256 columns, from 256 on device row `x = 0` and
    from 0 on device row `x = 1`. -/
abbrev sentM (c : Dev nD) : Memref sig .tc .vmem S256x256 .f32 :=
  (xM.slice (Rect.unit (s := S1x256x512) (k0_off1 c) S1x256x256.size (k0_off1_inb c)) (fun _ => rfl)).squeeze S256x256
    squeezes_S1x256x256_S256x256

/-- The bytes one copy moves, as the copy's semaphores count them. -/
abbrev N : ℕ := (inM : Memref sig .tc .vmem S256x256 .f32).view.dmaCredit
theorem N_pos : 0 < N := View.dmaCredit_pos _ (by decide)

/-! ## The contents -/

/-- What the pipeline has staged on device `c` when the body starts: the device's block of `x`. -/
def xstg (c : Dev nD) : (cc0_stg0_0 : Ref sig .tc).ty.Contents (Elt F) :=
  (win0_0.blk (0 : Fin 1)).view.read (Elt F) (m ((c : Thread nD τ).loc main_arg0))

/-- What device `c` receives: the half its mate sends. -/
def landed (c : Dev nD) : (cc0_scratch0 : Ref sig .tc).ty.Contents (Elt F) :=
  (sentM (mate c)).view.read (Elt F) (xstg m (mate c))

/-- Device `c`'s sent half, holding the staged block's data there. -/
def sentPts (c : Dev nD) : sProp 𝕄 :=
  (sentM c).view.loc (c : Thread nD τ) ↦[(sentM c).view.set]{fullShare} xstg m c

/-- Device `c`'s receive buffer, holding `f`. -/
def inPts (c : Dev nD) (f : (cc0_scratch0 : Ref sig .tc).ty.Contents (Elt F)) : sProp 𝕄 :=
  ((c : Thread nD τ).loc cc0_scratch0) ↦{fullShare} f

omit [FloatOps F] in
instance sentPts_storable (c : Dev nD) : BI.Storable (upEmb : UEmb _ 𝕄) (sentPts (F := F) m c) := by unfold sentPts; infer_instance
omit [FloatOps F] in
instance inPts_storable (c : Dev nD) (f) : BI.Storable (upEmb : UEmb _ 𝕄) (inPts (F := F) c f) := by unfold inPts; infer_instance

/-! ## The semaphores -/

/-- The three semaphores of a device: the barrier, the copy-read one, the arrival one. -/
abbrev sem : Fin 3 → SemLoc sig := fun
  | 0 => .reg (SemArray.scalar (sig.barrier 0 rfl) : Sems sig S_).sem
  | 1 => .dma cc0_scratch1.sem
  | 2 => .dma cc0_scratch2.sem

/-- Semaphore `k` of device `c`. -/
abbrev cell (k : Fin 3) (c : Dev nD) : GSem nD τ sig := ((c : Thread nD τ), sem k)

/-- Which of the three a semaphore is, if it is one of them. -/
def kind (s : SemLoc sig) : Option (Fin 3) :=
  if s = sem 0 then some 0 else if s = sem 1 then some 1 else if s = sem 2 then some 2 else none

theorem kind_sem : ∀ k, kind (sem k) = some k := by decide

theorem sem_inj {k k' : Fin 3} (h : sem k = sem k') : k = k' :=
  Option.some.inj ((kind_sem k).symm.trans ((congrArg kind h).trans (kind_sem k')))

theorem cell_inj {k k' : Fin 3} {c c' : Dev nD} (h : cell k c = cell k' c') : k = k' ∧ c = c' :=
  ⟨sem_inj (congrArg Prod.snd h), congrArg (fun g : GSem nD τ sig => g.1.1) h⟩

/-- How far semaphore `k` is raised: by one for the barrier, by the copy's bytes for the others. -/
def amt (k : Fin 3) : ℕ := if k = 0 then 1 else N
theorem amt_pos (k : Fin 3) : 0 < amt k := by unfold amt; split; exacts [Nat.one_pos, N_pos]

/-- Who raises semaphore `k` of device `c`: its own copy the copy-read one, its mate the other two. -/
def payer (k : Fin 3) (c : Dev nD) : Dev nD := if k = 1 then c else mate c

theorem payer_payer (k : Fin 3) (c : Dev nD) : payer k (payer k c) = c := by
  unfold payer; split; exacts [rfl, mate_mate c]

/-- What device `c` gains by waiting on semaphore `k`. Barrier: the right to write its mate's receive buffer, whose
    arrival semaphore nobody has raised yet. Copy-read: its sent half back. Arrival: its receive buffer, filled. -/
def gain (c : Dev nD) : Fin 3 → sProp 𝕄
  | 0 => iprop((∃ f, inPts (mate c) f) ∗ reached EX (cell 2 (mate c)) 0)
  | 1 => sentPts m c
  | 2 => inPts c (landed m c)

omit [FloatOps F] in
instance gain_storable (c : Dev nD) (k : Fin 3) : BI.Storable (upEmb : UEmb _ 𝕄) (gain (F := F) m c k) := by
  match k with
  | 0 => unfold gain; infer_instance
  | 1 => unfold gain; infer_instance
  | 2 => unfold gain; infer_instance

/-- The schedule of the exchange: one round, in which each of the three semaphores is raised once. -/
def sched : Rounds.Schedule (GSem nD τ sig) Unit 𝕄 where
  duties g r := if r = 0 ∧ (kind g.2).isSome then {()} else ∅
  unitless _ := False
  amount g _ _ := ((kind g.2).map amt).getD 1
  payload g _ _ := match kind g.2 with
    | some k => gain m g.1.1 k
    | none => iprop(emp)
  amount_pos g _ _ _ := by
    cases kind g.2
    · exact Nat.one_pos
    · exact amt_pos _

instance sched_payload_storable (g : GSem nD τ sig) (r : ℕ) (d : Unit) :
    BI.Storable (upEmb : UEmb _ 𝕄) ((sched (F := F) m).payload g r d) := by
  show BI.Storable upEmb (match kind g.2 with | some k => gain m g.1.1 k | none => iprop(emp))
  split <;> infer_instance

section Sched
variable (k : Fin 3) (c : Dev nD)

omit [FloatOps F] in
theorem sched_duties : (sched (F := F) m).duties (cell k c) 0 = {()} := by
  dsimp only [sched]; rw [kind_sem]; exact if_pos ⟨rfl, rfl⟩
omit [FloatOps F] in
theorem sched_mem : () ∈ (sched (F := F) m).duties (cell k c) 0 := by rw [sched_duties]; exact Finset.mem_singleton_self _
omit [FloatOps F] in
theorem sched_later (g : GSem nD τ sig) : ∀ r, 1 ≤ r → (sched (F := F) m).duties g r = ∅ :=
  fun r hr => if_neg fun h => by omega
omit [FloatOps F] in
theorem sched_amount : (sched (F := F) m).amount (cell k c) 0 () = amt k := by dsimp only [sched]; rw [kind_sem]; rfl
omit [FloatOps F] in
theorem sched_expect : (sched (F := F) m).expect (cell k c) 0 = amt k := by
  unfold Schedule.expect Schedule.amountOf; rw [sched_duties, Finset.sum_singleton, sched_amount]
omit [FloatOps F] in
theorem sched_payload : (sched (F := F) m).payload (cell k c) 0 () = gain m c k := by dsimp only [sched]; rw [kind_sem]
omit [FloatOps F] in
/-- All that the round of semaphore `k` pays out is its one gain. -/
theorem sched_rest : bigSep ((sched (F := F) m).duties (cell k c) 0 \ ∅) (fun d => (sched (F := F) m).payload (cell k c) 0 d) = gain m c k := by
  rw [Finset.sdiff_empty, sched_duties, bigSep_singleton, sched_payload]

end Sched

/-! ## What is owed at the start, and the order of the waits -/

/-- After its announcement a device owes its mate the copy; -/
def owesCopy (c : Dev nD) : CellTallies nD τ sig Unit := tallyAt (cell 2 (mate c)) () (amt 2)
/-- before it, the announcement too. -/
def owesAll (c : Dev nD) : CellTallies nD τ sig Unit := owesCopy c + tallyAt (cell 0 (mate c)) () (amt 0)

/-- The semaphores that have a level: those of the TensorCores. -/
def lvOn (g : GSem nD τ sig) : Finset Unit := if g.1.2 = .tc then {()} else ∅
/-- The level of a semaphore: a wait is allowed when everything owed lies strictly above it. -/
def lv (g : GSem nD τ sig) (_ : Unit) : ℕ := if g.2 = sem 2 then 2 else if g.2 = sem 0 then 1 else 0

theorem lvOn_of_ne (g : GSem nD τ sig) (h : g.1.2 ≠ .tc) : lvOn g = ∅ := if_neg h
theorem mem_lvOn (c : Dev nD) (s : SemLoc sig) (u : Unit) : u ∈ lvOn ((c : Thread nD τ), s) := by
  unfold lvOn; rw [if_pos rfl]; exact Finset.mem_singleton_self _

theorem lv_arrival (c : Dev nD) (u : Unit) : lv (cell 2 c) u = 2 := if_pos rfl
theorem lv_barrier (c : Dev nD) (u : Unit) : lv (cell 0 c) u = 1 :=
  (if_neg fun h : sem 0 = sem 2 => absurd (sem_inj h) (by decide)).trans (if_pos rfl)

theorem pos_of_tallyAt {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem pos_of_owesAll {c : Dev nD} {g : GSem nD τ sig} {u : Unit} (h : 0 < owesAll c g u) :
    g = cell 2 (mate c) ∨ g = cell 0 (mate c) := by
  unfold owesAll owesCopy at h
  rw [Pi.add_apply, Finsupp.add_apply] at h
  rcases Nat.eq_zero_or_pos ((tallyAt (cell 2 (mate c)) () (amt 2) : CellTallies nD τ sig Unit) g u) with h0 | h0
  · rw [h0, Nat.zero_add] at h; exact .inr (pos_of_tallyAt h)
  · exact .inl (pos_of_tallyAt h0)

omit [FloatOps F] in
/-- The barrier may be waited for while the copy is owed. -/
theorem mayWait_barrier (c : Dev nD) : (levAts lvOn lv : sProp 𝕄) ⊢ MayWait (c : Thread nD τ) (sem 0) () (owesCopy c) :=
  MayOwe.of_cut (L := lvOn) (lev := lv) 1 (fun p hp => by rw [Finset.mem_singleton.mp hp]; exact mem_lvOn c _ _)
    (fun g u hg => by rw [pos_of_tallyAt hg]; exact mem_lvOn _ _ _)
    (fun p hp => by rw [Finset.mem_singleton.mp hp]; exact (lv_barrier c _).le)
    (fun g u hg => by rw [pos_of_tallyAt hg, lv_arrival]; decide)

omit [FloatOps F] in
/-- The pipeline's own semaphores may be waited for at any time. -/
theorem mayWait_pipeline (c : Dev nD) (s : SemLoc sig) (h0 : s ≠ sem 0) (h2 : s ≠ sem 2) (O : CellTallies nD τ sig Unit)
    (hO : O = owesAll c ∨ O = 0) : (levAts lvOn lv : sProp 𝕄) ⊢ MayWait (c : Thread nD τ) s () O := by
  rcases hO with rfl | rfl
  · refine MayOwe.of_cut (L := lvOn) (lev := lv) 0 (fun p hp => by rw [Finset.mem_singleton.mp hp]; exact mem_lvOn c _ _)
      (fun g u hg => by rcases pos_of_owesAll hg with rfl | rfl <;> exact mem_lvOn _ _ _)
      (fun p hp => by rw [Finset.mem_singleton.mp hp]; dsimp only [lv]; rw [if_neg h2, if_neg h0])
      (fun g u hg => by
        rcases pos_of_owesAll hg with rfl | rfl
        · rw [lv_arrival]; decide
        · rw [lv_barrier]; decide)
  · rw [MayWait_zero]; iintro -; iempintro

end Cert.Swap

end
-- ==== Proof.Body.lean ====
/-
  One device's run of the kernel body.

  The staged block of `x` is held in two parts: the sent half, which the copy borrows until the last wait, and the rest,
  in which the half that the device keeps lies and is read while the copy may still be in flight. `sound_body` follows
  the body effect by effect, from what the device starts with (`start`, its receive buffer, the staged blocks) to the
  staged result block `outAt` and the three semaphores at zero.
-/
module

public import proofs.«01_k».proof.Proof.Protocol

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The half that a device keeps -/

/-- The two halves of a staged block: columns 0 to 255, and columns 256 to 511. -/
abbrev firstHalf : Rect S1x256x512 := Rect.unit (s := S1x256x512) ![0, 0, 0] S1x256x256.size inb_S1x256x512_S1x256x256_0_0_0
abbrev secondHalf : Rect S1x256x512 := Rect.unit (s := S1x256x512) ![0, 0, 256] S1x256x256.size inb_S1x256x512_S1x256x256_0_0_256

/-- The elements of the staged block outside the sent half. -/
abbrev keptSet (c : Dev nD) : Finset (Idx ((c : Thread nD τ).loc cc0_stg0_0)) := Finset.univ \ (sentM c).view.set

/-- A half that starts where the sent half does not lies outside the sent half. -/
theorem half_kept (c : Dev nD) (off : Fin 3 → ℕ) (inb : ∀ a, off a + S1x256x256.size a ≤ S1x256x512.size a)
    (hoff : off 2 + (256 - 256 * (c.val / 16)) = 256) :
    ((xM : Memref sig .tc .vmem S1x256x512 .f32).access (Rect.unit (s := S1x256x512) off S1x256x256.size inb)).set ⊆ keptSet c := by
  intro i hi
  refine Finset.mem_sdiff.mpr ⟨Finset.mem_univ _, fun hs => ?_⟩
  rw [Memref.set_view_squeeze] at hs
  have hs' := hs
  have hd : Disjoint (Rect.unit (s := S1x256x512) (k0_off1 c) S1x256x256.size (k0_off1_inb c)).set
      (Rect.unit (s := S1x256x512) off S1x256x256.size inb).set :=
    Rect.unit_disjoint 2 (by
      rw [k0_off1_eq]
      show (256 - 256 * (c.val / 16)) + 256 ≤ off 2 ∨ off 2 + 256 ≤ 256 - 256 * (c.val / 16)
      have := c.isLt
      have h32 : c.val < 32 := this
      omega)
  exact Finset.disjoint_left.mp hd ((View.set_slice_whole cc0_stg0_0 _) ▸ hs') ((View.set_slice_whole cc0_stg0_0 _) ▸ hi)

/-- The staged block of device `c` without the sent half. -/
def keptPts (c : Dev nD) : sProp 𝕄 := ((c : Thread nD τ).loc cc0_stg0_0) ↦[keptSet c]{fullShare} xstg m c

omit [FloatOps F] in
/-- The staged block is its sent half and the rest. -/
theorem staged_split (c : Dev nD) :
    (((c : Thread nD τ).loc cc0_stg0_0) ↦{fullShare} xstg m c : sProp 𝕄) ⊣⊢ iprop(sentPts m c ∗ keptPts m c) :=
  pointsTo_split_subset (Finset.subset_univ (sentM c).view.set)

/-- Device `c`'s result block: the half it keeps plus the half it received. -/
def outAt (c : Dev nD) : (cc0_stg1_0 : Ref sig .tc).ty.Contents (Elt F) :=
  if c.val < 16 then k0_pay1 ((xM.access firstHalf).read (Elt F) (xstg m c)) (landed m c)
  else k0_pay2 ((xM.access secondHalf).read (Elt F) (xstg m c)) (landed m c)

/-- The word the kernel computes for its `x` coordinate. -/
abbrev xword (c : Dev nD) : BitVec 32 := Scalar.remsi (Scalar.divsi (Dev.word c) 16#32) 2#32

/-- Whether that word is `v`, as the kernel tests it. -/
abbrev xtest (c : Dev nD) (v : BitVec 32) : BitVec 1 := Scalar.cmpi .ne (Scalar.extui (Scalar.cmpi .eq (xword c) v)) 0#32

theorem xtest_zero (c : Dev nD) : xtest c 0#32 = 1#1 ↔ c.val < 16 := by revert c; decide +kernel
theorem xtest_one (c : Dev nD) : xtest c 1#32 = 1#1 ↔ ¬ c.val < 16 := by revert c; decide +kernel

/-! ## What a device starts with and ends with -/

/-- What every device may consult: that the protocol holds of every semaphore (under the names `K`), and that no round
    but the first has begun. -/
def rules (K : Dev nD × Fin 3 → ℕ) : sProp 𝕄 :=
  iprop((bigSep Finset.univ fun ck : Dev nD × Fin 3 => cellInv EX (sched m) (K ck) (cell ck.2 ck.1))
    ∗ bigSep Finset.univ fun ck : Dev nD × Fin 3 => reached EX (cell ck.2 ck.1) 0)

instance rules_persistent (K : Dev nD × Fin 3 → ℕ) : BI.Persistent (rules m K) := by unfold rules; infer_instance

omit [FloatOps F] in
theorem rules_inv (K : Dev nD × Fin 3 → ℕ) (k : Fin 3) (c : Dev nD) : rules m K ⊢ cellInv EX (sched m) (K (c, k)) (cell k c) := by
  unfold rules
  iintro ⟨H, -⟩
  iapply (show (bigSep Finset.univ fun ck : Dev nD × Fin 3 => (cellInv EX (sched m) (K ck) (cell ck.2 ck.1) : sProp 𝕄))
    ⊢ cellInv EX (sched m) (K (c, k)) (cell k c) from bigSep_elim (Finset.mem_univ (c, k)))
  iexact H

omit [FloatOps F] in
theorem rules_reached (K : Dev nD × Fin 3 → ℕ) (k : Fin 3) (c : Dev nD) : rules m K ⊢ reached EX (cell k c) 0 := by
  unfold rules
  iintro ⟨-, H⟩
  iapply (show (bigSep Finset.univ fun ck : Dev nD × Fin 3 => (reached EX (cell ck.2 ck.1) 0 : sProp 𝕄))
    ⊢ reached EX (cell k c) 0 from bigSep_elim (Finset.mem_univ (c, k)))
  iexact H

/-- A device's own place in the protocol: it has waited on none of its semaphores, and may raise the one of each kind
    whose payer it is. -/
def place (c : Dev nD) : sProp 𝕄 :=
  iprop((atPos EX (cell 0 c) 0 ∅ 0 ∗ atPos EX (cell 1 c) 0 ∅ 0 ∗ atPos EX (cell 2 c) 0 ∅ 0)
    ∗ (dutyTok EX (cell 0 (mate c)) 0 () ∗ dutyTok EX (cell 1 c) 0 () ∗ dutyTok EX (cell 2 (mate c)) 0 ()))

/-- What device `c`'s body starts from: the rules, its place, the promise that its barrier and arrival semaphores will
    be raised, and the levels. -/
def start (c : Dev nD) : sProp 𝕄 :=
  iprop((∃ K, rules m K ∗ place c) ∗ cred (tallyAt (cell 0 c) () (amt 0)) ∗ cred (tallyAt (cell 2 c) () (amt 2)) ∗ levAts lvOn lv)

/-- Before the body: that, and the receive buffer with whatever it holds. -/
def Φ₀ (c : Dev nD) : sProp 𝕄 := iprop(start m c ∗ ∃ f, inPts c f)

/-- After the body: the receive buffer with the half received, and the three semaphores at zero. -/
def Φ₁ (c : Dev nD) : sProp 𝕄 :=
  iprop(inPts c (landed m c) ∗ semVal (cell 0 c) 0 ∗ semVal (cell 1 c) 0 ∗ semVal (cell 2 c) 0)

/-- The proof data of the block pipeline: the arrays as found, the staged blocks after the body, and the above. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => owesAll c
    | ⟨_ + 1, _⟩ => 0

abbrev 𝒱₀ : Variants := Variants.none

/-! ## The body, effect by effect -/

section Body

omit [FloatOps F] in
theorem zero2 : (![0, 0] : Fin 2 → Nat) = fun _ => 0 := funext fun a => by fin_cases a <;> rfl

abbrev whole2 : Rect S256x256 := Rect.unit (s := S256x256) ![0, 0] S256x256.size inb_S256x256_S256x256_0_0

/-- Load a half of the staged block outside the sent half, load the receive buffer, store a function of the two as the
    result block (whose old contents are loaded and not used). -/
theorem wp_combine (c : Dev nD) (off : Fin 3 → ℕ) (inb : ∀ a, off a + S1x256x256.size a ≤ S1x256x512.size a)
    (hoff : off 2 + (256 - 256 * (c.val / 16)) = 256)
    (pay : Vec F S1x256x256 .f32 → Vec F S256x256 .f32 → FVec F S256x256 .f32)
    (f : (cc0_scratch0 : Ref sig .tc).ty.Contents (Elt F)) (g : (cc0_stg1_0 : Ref sig .tc).ty.Contents (Elt F))
    {hl1 : (xM : Memref sig .tc .vmem S1x256x512 .f32).view.LoadsAt (Rect.unit (s := S1x256x512) off S1x256x256.size inb).toLoadRect}
    {hl2 : (inM : Memref sig .tc .vmem S256x256 .f32).view.LoadsAt whole2.toLoadRect}
    {hl3 : (oM : Memref sig .tc .vmem S256x256 .f32).view.LoadsAt whole2.toLoadRect}
    {hx : ((oM : Memref sig .tc .vmem S256x256 .f32).access whole2 : View sig .tc _ _ _).Stores Finset.univ}
    {hm : (Finset.univ : Finset whole2.shape.Idx) = Finset.univ ∨ ∀ a, whole2.stride a = 1}
    {α : Type} {Q : α → sProp 𝕄} {k : PUnit → Prog (TpuEff nD τ sig (Elt F) Λ₀ .tc) α} :
    iprop(keptPts m c ∗ inPts c f ∗ (((c : Thread nD τ).loc cc0_stg1_0) ↦{fullShare} g))
      ⊢ iprop(((keptPts m c ∗ inPts c f ∗ (((c : Thread nD τ).loc cc0_stg1_0) ↦{fullShare}
              (pay ((xM.access (Rect.unit (s := S1x256x512) off S1x256x256.size inb)).read (Elt F) (xstg m c)) f :
                (cc0_stg1_0 : Ref sig .tc).ty.Contents (Elt F))))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (Rect.unit (s := S1x256x512) off S1x256x256.size inb).toLoadRect hl1) fun v =>
              .op (.load inM whole2.toLoadRect hl2) fun w => .op (.load oM whole2.toLoadRect hl3) fun _ =>
                .op (.store oM whole2 (pay v w) Finset.univ hx hm) k) Q) := by
  unfold keptPts inPts
  iintro ⟨Hx, Hin, Ho⟩ Hk
  iapply (wp_load_rect 𝒱₀ (c : Thread nD τ) none Set.univ (m := xM) (half_kept c off inb hoff)) $$ Hx; iintro Hx
  iapply (wp_load 𝒱₀ (c : Thread nD τ) none Set.univ (m := inM) (Finset.subset_univ _)) $$ Hin; iintro Hin
  rw [show (inM : Memref sig .tc .vmem S256x256 .f32).view.readAt (Elt F) whole2.toLoadRect f = f from
    Memref.readAt_unit_zero (Elt F) cc0_scratch0 zero2 _ f]
  iapply (wp_load 𝒱₀ (c : Thread nD τ) none Set.univ (m := oM) (Finset.subset_univ _)) $$ Ho; iintro Ho
  iapply (wp_store 𝒱₀ (c : Thread nD τ) none Set.univ (m := oM) (r := whole2) (Mk := Finset.univ) (Finset.subset_univ _)) $$ Ho; iintro Ho
  rw [show ∀ w : (cc0_stg1_0 : Ref sig .tc).ty.Contents (Elt F),
      ((oM : Memref sig .tc .vmem S256x256 .f32).access whole2 : View sig .tc _ _ _).write (Elt F) g w Finset.univ = w from
    fun w => Memref.write_access_unit_zero_univ (Elt F) cc0_stg1_0 zero2 _ g w]
  iapply Hk
  isplitl [Hx]; · iexact Hx
  isplitl [Hin]; · iexact Hin
  iexact Ho

variable (K : Dev nD × Fin 3 → ℕ)

/-- The copy: the sent half is lent until the copy-read semaphore is waited for, and the mate's receive buffer goes,
    filled, to the mate with its arrival semaphore. -/
theorem wp_copyOut (c n : Dev nD) (hn : n = mate c) {hsc : (inM : Memref sig (Dev.tc n : Thread nD τ).2.kind .vmem S256x256 .f32).view.ref.isScScratch = false}
    {hsrc : (sentM c).view.WordExact} {hdst : (inM : Memref sig .tc .vmem S256x256 .f32).view.WordExact}
    {hsem : DmaTarget.Typed .vmem (sem 2) (.remote (Dev.tc n : Thread nD τ) (inM : Memref sig .tc .vmem S256x256 .f32) (sem 1) hsc)}
    {α : Type} {Q : α → sProp 𝕄} {k : PUnit → Prog (TpuEff nD τ sig (Elt F) Λ₀ .tc) α}
    (f : (cc0_scratch0 : Ref sig .tc).ty.Contents (Elt F)) (W : Waits sig Unit) :
    iprop(rules m K ∗ sentPts m c ∗ inPts (mate c) f ∗ owes (c : Thread nD τ) (owesCopy c) W
        ∗ dutyTok EX (cell 1 c) 0 () ∗ dutyTok EX (cell 2 (mate c)) 0 ())
      ⊢ iprop(((cred (tallyAt (cell 1 c) () (amt 1)) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sentM c) (.remote (Dev.tc n : Thread nD τ) inM (sem 1) hsc) (sem 2) hsrc hdst hsem) k) Q) := by
  subst hn
  iintro ⟨#HR, Hs, Hd, HO, Ht1, Ht2⟩ Hk
  ihave Hd := (Entails.of_eq (show (inPts (mate c) f : sProp 𝕄) = ((inM : Memref sig .tc .vmem S256x256 .f32).view.loc (mate c : Thread nD τ)
    ↦[(inM : Memref sig .tc .vmem S256x256 .f32).view.set]{fullShare} f) from by unfold inPts; rw [View.set_whole])) $$ Hd
  unfold sentPts
  iapply (Rounds.wp_send_pointsTo 𝒱₀ EX (sched m) (c : Thread nD τ) none (κ₁ := K (c, 1)) (κ₂ := K (mate c, 2))
    (r₁ := 0) (r₂ := 0) (d₁ := ()) (d₂ := ()) (fd := f) (fs := xstg m c) (sched_mem m 1 c) (sched_mem m 2 (mate c)) () () (amt 1) rfl
    (sched_amount m 1 c) (sched_amount m 2 (mate c)) 0 (by rw [zero_add]) (W := W)
    (by rw [sched_payload]; exact BI.Entails.refl _)
    (by
      rw [sched_payload, View.set_whole]
      unfold gain inPts landed
      rw [mate_mate]
      exact Entails.of_eq (congrArg _ (View.write_whole_univ (Val := Elt F) cc0_scratch0 f _)))) $$ [Hs Hd HO Ht1 Ht2]
  · isplitr; · iapply (rules_inv m K 1 c); iexact HR
    isplitr; · iapply (rules_inv m K 2 (mate c)); iexact HR
    isplitl [Hs]; · iexact Hs
    isplitl [Hd]; · iexact Hd
    isplitl [HO]; · iexact HO
    isplitl [Ht1]; · iexact Ht1
    isplitr; · iapply (rules_reached m K 1 c); iexact HR
    isplitl [Ht2]; · iexact Ht2
    iapply (rules_reached m K 2 (mate c)); iexact HR
  iexact Hk

/-- A wait for semaphore `k`'s one round: the device gets its gain, and has nothing more to wait for there. -/
theorem wp_await (k : Fin 3) (c : Dev nD) {w : TpuEff nD τ sig (Elt F) Λ₀ (c : Thread nD τ).2 PUnit} {n : ℕ} (hn : n = amt k)
    (hw : ∀ P : PUnit → sProp 𝕄, wpE (defs₀ (F := F)) 𝒱₀ (c : Thread nD τ) none Set.univ w P = waitSpec (c : Thread nD τ) Set.univ (sem k) n P)
    {O : CellTallies nD τ sig Unit} (hO : (levAts lvOn lv : sProp 𝕄) ⊢ MayWait (c : Thread nD τ) (sem k) () O) (W : Waits sig Unit)
    {α : Type} {Q : α → sProp 𝕄} {kont : PUnit → Prog (TpuEff nD τ sig (Elt F) Λ₀ .tc) α} :
    iprop(rules m K ∗ levAts lvOn lv ∗ cred (tallyAt (cell k c) () (amt k)) ∗ owes (c : Thread nD τ) O W ∗ atPos EX (cell k c) 0 ∅ 0)
      ⊢ iprop(((owes (c : Thread nD τ) O (insert (sem k, ()) W) ∗ semVal (cell k c) 0 ∗ gain m c k)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn
  iintro ⟨#HR, #Hl, Hc, HO, Ha⟩ Hk
  iapply (Rounds.wp_wait_rest_token 𝒱₀ EX (sched m) (c : Thread nD τ) none (κ := K (c, k)) hw (Set.mem_univ _) () (O := O) (W := W)
      (R := 0) (m := 0) (T := ∅) (by rw [Nat.zero_add, sched_expect])) $$ [Hc HO Ha]
  · isplitr; · iapply (rules_inv m K k c); iexact HR
    isplitl [Hc]; · iexact Hc
    isplitl [HO]; · iexact HO
    isplitr; · iapply hO; iexact Hl
    iexact Ha
  iintro ⟨HO, Ha, -, Hg⟩
  ihave Hg := (Entails.of_eq (sched_rest m k c)) $$ Hg
  imod (Rounds.cell_close EX (sched m) (Set.mem_univ (K (c, k))) (fun h => h) (R := 0 + 1) (sched_later m (cell k c))) $$ [Ha] with Hz
  · isplitr; · iapply (rules_inv m K k c); iexact HR
    iexact Ha
  iapply Hk
  isplitl [HO]; · iexact HO
  isplitl [Hz]; · iexact Hz
  iexact Hg

/-- The contents of a whole staged block. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The pipeline's one point. -/
def t₀ : Fin cfg0.N := ⟨0, by rw [show cfg0.N = 1 from N_0]; decide⟩

/-- What the body is run from, with the names `K` chosen; -/
def bodyPre (c : Dev nD) : sProp 𝕄 :=
  iprop((rules m K ∗ place c ∗ cred (tallyAt (cell 0 c) () (amt 0)) ∗ cred (tallyAt (cell 2 c) () (amt 2)) ∗ levAts lvOn lv ∗ ∃ f, inPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- and what it must end in. -/
def bodyPost (c : Dev nD) : sProp 𝕄 :=
  iprop(Φ₁ m c ∗ (dats m 0 c).owesAt () t₀.succ ∗ stg c cc0_stg0_0 (xstg m c) ∗ stg c cc0_stg1_0 (outAt m c))

theorem outAt_row0 (c : Dev nD) (h : c.val < 16) :
    outAt m c = k0_pay1 ((xM.access firstHalf).read (Elt F) (xstg m c)) (landed m c) := if_pos h
theorem outAt_row1 (c : Dev nD) (h : ¬ c.val < 16) :
    outAt m c = k0_pay2 ((xM.access secondHalf).read (Elt F) (xstg m c)) (landed m c) := if_neg h

/-- The sent half and a receive buffer are copied for the same credit. -/
theorem sent_credit (c : Dev nD) : (sentM c).view.dmaCredit = amt 1 := rfl

/-- The body's last effect: the wait after which the sent half is whole again. -/
theorem wp_last (c : Dev nD) {w : TpuEff nD τ sig (Elt F) Λ₀ (c : Thread nD τ).2 PUnit} {n : ℕ} (hn : n = amt 1)
    (hw : ∀ P : PUnit → sProp 𝕄, wpE (defs₀ (F := F)) 𝒱₀ (c : Thread nD τ) none Set.univ w P = waitSpec (c : Thread nD τ) Set.univ (sem 1) n P)
    (W : Waits sig Unit) (Kt : PUnit → sProp 𝕄) :
    iprop(rules m K ∗ levAts lvOn lv ∗ cred (tallyAt (cell 1 c) () (amt 1)) ∗ owes (c : Thread nD τ) 0 W ∗ atPos EX (cell 1 c) 0 ∅ 0
        ∗ (semVal (cell 0 c) 0 ∗ semVal (cell 2 c) 0) ∗ (keptPts m c ∗ inPts c (landed m c)
          ∗ (((c : Thread nD τ).loc cc0_stg1_0) ↦{fullShare} outAt m c)) ∗ (bodyPost m c -∗ Kt ⟨⟩))
      ⊢ wp frame (wpE (defs₀ (F := F)) 𝒱₀ (c : Thread nD τ) none) Set.univ (.op w fun _ => .ret ⟨⟩) Kt := by
  iintro ⟨#HR, #Hlev, Hc1, HO, Ha1, ⟨Hz0, Hz2⟩, ⟨Hkept, Hin, Hout⟩, Hk⟩
  iapply (wp_await m K 1 c hn hw (by rw [MayWait_zero]; iintro -; iempintro) _) $$ [Hc1 HO Ha1]
  · isplitr; · iexact HR
    isplitr; · iexact Hlev
    isplitl [Hc1]; · iexact Hc1
    isplitl [HO] <;> iassumption
  iintro ⟨HO, Hz1, Hs⟩
  unfold gain
  rw [wp_ret]; imodintro
  iapply Hk
  unfold bodyPost Φ₁
  isplitl [Hin Hz0 Hz1 Hz2]
  · isplitl [Hin]; · iexact Hin
    isplitl [Hz0]; · iexact Hz0
    isplitl [Hz1] <;> iassumption
  isplitl [HO]
  · unfold Dat.owesAt Pipeline.owesWithin
    rw [show (dats m 0 c).owed t₀.succ = 0 from rfl]
    iexists (insert (sem 1, ()) W); isplitr; · (ipureintro; exact fun _ _ => Or.inl trivial)
    iexact HO
  isplitl [Hs Hkept]
  · iexists _; isplitr; · (ipureintro; rfl)
    iapply (staged_split m c).2
    isplitl [Hs] <;> iassumption
  iexists _; isplitr; · (ipureintro; rfl)
  iexact Hout

set_option maxHeartbeats 800000 in
/-- The body runs from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre place
  iintro ⟨⟨⟨#HR, ⟨⟨Ha0, Ha1, Ha2⟩, Ht0, Ht1, Ht2⟩, Hc0, Hc2, #Hlev, ⟨%f0, Hin⟩⟩,
    Ho, ⟨%d0, %g0, %hg0, Hx⟩, ⟨%d1, %g1, %hg1, Hout⟩⟩, Hk⟩
  have hx : g0 = xstg m c := by
    rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m 0 c).owed t₀.castSucc = owesAll c from rfl]
  simp only [signalled_eq c]
  -- the announcement: the mate may write this device's receive buffer
  iapply (Rounds.wp_signal 𝒱₀ EX (sched m) (c : Thread nD τ) none (dst := (mate c : Thread nD τ)) (κ := K (mate c, 0))
      (d := ()) (sched_mem m 0 (mate c)) ((sched_amount m 0 (mate c)).trans (by decide)) () (owesCopy c) rfl) $$ [HO Ht0 Hin]
  · isplitr; · iapply (rules_inv m K 0 (mate c)); iexact HR
    isplitl [HO]; · iexact HO
    isplitl [Ht0]; · iexact Ht0
    isplitl [Hin]
    · iapply (Entails.of_eq (sched_payload m 0 (mate c)).symm); unfold gain; rw [mate_mate]
      isplitl [Hin]; · iexists f0; iexact Hin
      iapply (rules_reached m K 2 c); iexact HR
    iapply (rules_reached m K 0 (mate c)); iexact HR
  iintro HO
  -- the mate's announcement
  iapply (wp_await m K 0 c rfl (wpE_semWait_eq 𝒱₀ (c : Thread nD τ) none Set.univ) (mayWait_barrier c) W) $$ [Hc0 HO Ha0]
  · isplitr; · iexact HR
    isplitr; · iexact Hlev
    isplitl [Hc0]; · iexact Hc0
    isplitl [HO] <;> iassumption
  iintro ⟨HO, Hz0, Hg⟩
  unfold gain
  icases Hg with ⟨⟨%fm, Hd⟩, -⟩
  -- the copy, of the sent half alone
  ihave Hx' := (staged_split m c).1 $$ Hx
  icases Hx' with ⟨Hs, Hkept⟩
  iapply (wp_copyOut m K c _ (target_eq c) fm) $$ [Hs Hd HO Ht1 Ht2]
  · isplitr; · iexact HR
    isplitl [Hs]; · iexact Hs
    isplitl [Hd]; · iexact Hd
    isplitl [HO]; · iexact HO
    isplitl [Ht1] <;> iassumption
  iintro ⟨Hc1, HO⟩
  -- the arrival of the mate's half
  iapply (wp_await m K 2 c rfl (wpE_waitDma2_eq 𝒱₀ (c : Thread nD τ) none Set.univ) (by rw [MayWait_zero]; iintro -; iempintro) _) $$ [Hc2 HO Ha2]
  · isplitr; · iexact HR
    isplitr; · iexact Hlev
    isplitl [Hc2]; · iexact Hc2
    isplitl [HO] <;> iassumption
  iintro ⟨HO, Hz2, Hin⟩
  unfold gain
  -- the addition, with the half that this device row keeps
  have hlt : c.val < 32 := c.isLt
  by_cases hc : c.val < 16
  · rw [dif_pos ((xtest_zero c).mpr hc)]
    iapply (wp_combine m c ![0, 0, 0] inb_S1x256x512_S1x256x256_0_0_0 (by show 0 + (256 - 256 * (c.val / 16)) = 256; omega) k0_pay1 (landed m c) g1) $$ [Hkept Hin Hout]
    · isplitl [Hkept]; · iexact Hkept
      isplitl [Hin] <;> iassumption
    rw [show k0_pay1 ((xM.access firstHalf).read (Elt F) (xstg m c)) (landed m c) = outAt m c from (outAt_row0 m c hc).symm]
    iintro Hv
    rw [dif_neg (show ¬ xtest c 1#32 = 1#1 from fun h => (xtest_one c).mp h hc)]
    iapply (wp_last m K c (sent_credit c) (wpE_waitDma2_eq 𝒱₀ (c : Thread nD τ) none Set.univ) _ Kt)
    isplitr; · iexact HR
    isplitr; · iexact Hlev
    isplitl [Hc1]; · iexact Hc1
    isplitl [HO]; · iexact HO
    isplitl [Ha1]; · iexact Ha1
    isplitl [Hz0 Hz2]
    · isplitl [Hz0] <;> iassumption
    isplitl [Hv] <;> iassumption
  · rw [dif_neg (show ¬ xtest c 0#32 = 1#1 from fun h => hc ((xtest_zero c).mp h)), dif_pos ((xtest_one c).mpr hc)]
    iapply (wp_combine m c ![0, 0, 256] inb_S1x256x512_S1x256x256_0_0_256 (by show 256 + (256 - 256 * (c.val / 16)) = 256; omega) k0_pay2 (landed m c) g1) $$ [Hkept Hin Hout]
    · isplitl [Hkept]; · iexact Hkept
      isplitl [Hin] <;> iassumption
    rw [show k0_pay2 ((xM.access secondHalf).read (Elt F) (xstg m c)) (landed m c) = outAt m c from (outAt_row1 m c hc).symm]
    iintro Hv
    iapply (wp_last m K c (sent_credit c) (wpE_waitDma2_eq 𝒱₀ (c : Thread nD τ) none Set.univ) _ Kt)
    isplitr; · iexact HR
    isplitr; · iexact Hlev
    isplitl [Hc1]; · iexact Hc1
    isplitl [HO]; · iexact HO
    isplitl [Ha1]; · iexact Ha1
    isplitl [Hz0 Hz2]
    · isplitl [Hz0] <;> iassumption
    isplitl [Hv] <;> iassumption

/-- The body obligation of the block pipeline. -/
theorem body_obligation (c : Dev nD) : BodyObligation (dats (F := F) m 0 c) (defs₀ (F := F)) 𝒱₀ () Set.univ := fun t => by
  rw [fin_N0 t, bigSep_W0, bigSep_W0]
  simp only [owns_whole_eq]
  show iprop(Φ₀ m c ∗ (dats m 0 c).owesAt () t₀.castSucc
      ∗ (∃ d, stg c cc0_stg0_0 ((dats m 0 c).before (0 : Fin 2) t₀ d))
      ∗ (∃ d, stg c cc0_stg1_0 ((dats m 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m c)
  unfold Φ₀ start
  iintro ⟨⟨⟨⟨%K, HR, Hp⟩, H0, H2, Hl⟩, Hin⟩, Hrest⟩
  iapply (sound_body m K c fun _ => bodyPost m c)
  unfold bodyPre
  isplitr []
  · isplitr [Hrest]
    · isplitl [HR]; · iexact HR
      isplitl [Hp]; · iexact Hp
      isplitl [H0]; · iexact H0
      isplitl [H2]; · iexact H2
      isplitl [Hl] <;> iassumption
    · iexact Hrest
  · iintro H; iexact H

end Body

end Cert.Swap

end
-- ==== Proof.Launch.lean ====
/-
  The launch of the kernel on the 32 devices, and what its run leaves.

  At the launch the protocol's state is split by semaphore: every semaphore of every device comes with its counter at
  zero, its position, and the right to raise it once. The counters are put under the protocol for all devices at once
  (the barrier semaphores are shared by the two devices of a pair), and each right goes to the device that uses it
  (`payer`). `run_main` is the result: every execution ends, with the result array of each device at `outAt`, its
  argument array as it was, and every semaphore at zero.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands out -/

/-- The kernel's own two semaphores: copy-read and arrival. -/
abbrev osem : Fin 2 → SemLoc sig := fun
  | 0 => sem 1
  | 1 => sem 2

theorem ownSemFacts : Pipeline.OwnSemFacts cfg0.spec osem := by decide

theorem share_eq (c : Dev nD) (w : Fin cfg0.W) : (dats m 0 c).share w = fullShare := by unfold Dat.share; split <;> rfl

/-- Every semaphore of the protocol, -/
abbrev cellAt (ck : Dev nD × Fin 3) : GSem nD τ sig := cell ck.2 ck.1

theorem cellAt_inj : Function.Injective cellAt := fun _ _ h => Prod.ext (cell_inj h).2 (cell_inj h).1

def allCells : Finset (GSem nD τ sig) := Finset.univ.map ⟨cellAt, cellAt_inj⟩

/-- and the right to raise each. -/
def allToks : Finset (GSem nD τ sig × ℕ × Unit) :=
  Finset.univ.map ⟨fun ck => (cellAt ck, 0, ()), fun _ _ h => cellAt_inj (congrArg Prod.fst h)⟩

/-- The launch element: the block pipeline's, and the exchange's. -/
def u₀ : UU := (initOf (Pipeline.cells cfgs cellOf_inj) (Pipeline.launchToks cfgs cellOf_inj), initOf allCells allToks)

/-- What comes with one semaphore, besides its counter: the position (nothing waited for yet), the record that the round
    has begun, and the right to raise it; -/
def withCell (ck : Dev nD × Fin 3) : sProp 𝕄 :=
  iprop(atPos EX (cellAt ck) 0 ∅ 0 ∗ reached EX (cellAt ck) 0 ∗ dutyTok EX (cellAt ck) 0 ())

/-- what the launch element deals for one device, -/
def dealt (c : Dev nD) : sProp 𝕄 :=
  bigSep Finset.univ fun k : Fin 3 => iprop(roundState EX (sched m) (cellAt (c, k)) 0 ∗ withCell (c, k))

/-- and what the device holds once the counters are under the protocol. -/
def ready (c : Dev nD) : sProp 𝕄 := iprop(∃ K, rules m K ∗ place c)

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem over_cells (Φ : GSem nD τ sig → sProp 𝕄) : bigSep allCells Φ = bigSep Finset.univ fun ck => Φ (cellAt ck) := by
  unfold allCells; rw [bigSep_map]; rfl

omit [FloatOps F] in
theorem over_toks (Φ : GSem nD τ sig × ℕ × Unit → sProp 𝕄) : bigSep allToks Φ = bigSep Finset.univ fun ck => Φ (cellAt ck, 0, ()) := by
  unfold allToks; rw [bigSep_map]; rfl

omit [FloatOps F] in
theorem fund_exchange : BI.own (EX (initOf allCells allToks)) ⊢ (|==> bigSep Finset.univ (dealt m) : sProp 𝕄) := by
  iintro HX
  imod (Rounds.fund EX (sched m) allCells allToks) $$ HX with ⟨Hst, Hr, Hat, Htok⟩
  imodintro
  ihave Hst := (Entails.of_eq (over_cells fun g => roundState EX (sched m) g 0)) $$ Hst
  ihave Hat := (Entails.of_eq (over_cells fun g => atPos EX g 0 ∅ 0)) $$ Hat
  ihave Hr := (Entails.of_eq (over_cells fun g => reached EX g 0)) $$ Hr
  ihave Htok := (Entails.of_eq (over_toks fun x => dutyTok EX x.1 x.2.1 x.2.2)) $$ Htok
  unfold dealt withCell
  rw [← bigSep_univ_prod (fun ck : Dev nD × Fin 3 => (iprop(roundState EX (sched m) (cellAt ck) 0
    ∗ atPos EX (cellAt ck) 0 ∅ 0 ∗ reached EX (cellAt ck) 0 ∗ dutyTok EX (cellAt ck) 0 ()) : sProp 𝕄))]
  simp only [bigSep_sep']
  isplitl [Hst]; · iexact Hst
  isplitl [Hat]; · iexact Hat
  isplitl [Hr] <;> iassumption

/-! ## The counters under the protocol -/

omit [FloatOps F] in
theorem ownSems0_eq (c : Dev nD) : (Pipeline.ownSems0 (Ix := Unit) (Name := ℕ) (U := UU) (Lvl := ℕ) (Val := Elt F) (τ := τ) osem c : sProp 𝕄)
    = iprop(semVal (cell 1 c) 0 ∗ semVal (cell 2 c) 0) := by
  rw [Pipeline.ownSems0_eq_of_list c osem [0, 1] (by decide) (by decide)]; rfl

omit [FloatOps F] in
/-- The barrier is the one semaphore that is not the kernel's own. -/
theorem unscopedSems0_eq (c : Dev nD) : (unscopedSems0 c : sProp 𝕄) = semVal (cell 0 c) 0 := by
  unfold unscopedSems0; rw [bigSep_eq_bigSepL_of_eq [sem 0] (by decide) (by decide)]; rfl

omit [FloatOps F] in
/-- One device's counters and what was dealt, semaphore by semaphore, with the counters under the protocol. -/
theorem device_ready (c : Dev nD) :
    iprop(Pipeline.ownSems0 (Ix := Unit) (Name := ℕ) (U := UU) (Lvl := ℕ) (Val := Elt F) (τ := τ) osem c ∗ unscopedSems0 c ∗ dealt m c)
      ⊢ (|={Set.univ}=> bigSep Finset.univ fun k : Fin 3 => iprop((∃ κ : ℕ, cellInv EX (sched m) κ (cellAt (c, k))) ∗ withCell (c, k)) : sProp 𝕄) := by
  rw [ownSems0_eq, unscopedSems0_eq]
  have hcell (k : Fin 3) : iprop(semVal (cellAt (c, k)) 0 ∗ roundState EX (sched m) (cellAt (c, k)) 0 ∗ withCell (c, k))
      ⊢ (|={Set.univ}=> iprop((∃ κ : ℕ, cellInv EX (sched m) κ (cellAt (c, k))) ∗ withCell (c, k)) : sProp 𝕄) := by
    iintro ⟨Hv, Hs, Hw⟩
    imod ((Rounds.body_intro EX (sched m) (cellAt (c, k))).trans inv_alloc) $$ [Hv Hs] with HI
    · isplitl [Hv] <;> iassumption
    imodintro
    isplitl [HI] <;> iassumption
  refine BIBase.Entails.trans ?_ ((bigSep_mono fun k _ => hcell k).trans (bigSep_fupd _ _))
  unfold dealt
  rw [three, three]
  iintro ⟨⟨H1, H2⟩, H0, G0, G1, G2⟩
  isplitl [H0 G0]; · isplitl [H0] <;> iassumption
  isplitl [H1 G1]; · isplitl [H1] <;> iassumption
  isplitl [H2] <;> iassumption

/-- The exchange of roles: semaphore `k` of the payer, for each `k`. -/
def paid : Dev nD × Fin 3 ≃ Dev nD × Fin 3 where
  toFun ck := (payer ck.2 ck.1, ck.2)
  invFun ck := (payer ck.2 ck.1, ck.2)
  left_inv ck := Prod.ext (payer_payer _ _) rfl
  right_inv ck := Prod.ext (payer_payer _ _) rfl

omit [FloatOps F] in
/-- All devices at once: each gets the rules, its positions, and the rights it will use. -/
theorem all_ready : (bigSep Finset.univ fun c : Dev nD => iprop(Pipeline.ownSems0 (Ix := Unit) (Name := ℕ) (U := UU) (Lvl := ℕ) (Val := Elt F) (τ := τ) osem c
      ∗ unscopedSems0 c ∗ dealt m c) : sProp 𝕄) ⊢ |={Set.univ}=> bigSep Finset.univ (ready m) := by
  suffices h : (bigSep Finset.univ fun c : Dev nD => bigSep Finset.univ fun k : Fin 3 =>
      (iprop((∃ κ : ℕ, cellInv EX (sched m) κ (cellAt (c, k))) ∗ withCell (c, k)) : sProp 𝕄)) ⊢ bigSep Finset.univ (ready m) from
    ((bigSep_mono fun c _ => device_ready m c).trans (bigSep_fupd _ _)).trans (BI.fupd_mono h)
  rw [← bigSep_univ_prod (fun ck : Dev nD × Fin 3 => (iprop((∃ κ : ℕ, cellInv EX (sched m) κ (cellAt ck)) ∗ withCell ck) : sProp 𝕄))]
  unfold withCell
  simp only [bigSep_sep']
  iintro ⟨HI, Hat, #HR, Htok⟩
  ihave HK := (BI.bigSep_exists_pi Finset.univ (fun (ck : Dev nD × Fin 3) (κ : ℕ) => (cellInv EX (sched m) κ (cellAt ck) : sProp 𝕄))) $$ HI
  icases HK with ⟨%K, #HI⟩
  have hplace : iprop((bigSep Finset.univ fun ck : Dev nD × Fin 3 => atPos EX (cellAt ck) 0 ∅ 0)
      ∗ bigSep Finset.univ fun ck : Dev nD × Fin 3 => dutyTok EX (cellAt ck) 0 ()) = (bigSep Finset.univ fun c : Dev nD => place c : sProp 𝕄) := by
    rw [bigSep_univ_equiv paid (fun ck : Dev nD × Fin 3 => (dutyTok EX (cellAt ck) 0 () : sProp 𝕄)), bigSep_univ_prod, bigSep_univ_prod, ← bigSep_sep']
    exact bigSep_congr fun c _ => by unfold place; rw [three, three]; rfl
  ihave Hp := (Entails.of_eq hplace) $$ [Hat Htok]
  · isplitl [Hat] <;> iassumption
  ihave HR' := (show rules m K ⊢ bigSep Finset.univ (fun _ : Dev nD => rules m K) from BI.bigSep_of_persistent Finset.univ (rules m K)) $$ []
  · unfold rules; isplitr; · iexact HI
    iexact HR
  iapply ((Entails.of_eq (bigSep_sep' Finset.univ (fun _ : Dev nD => rules m K) fun c => place c).symm).trans
    (bigSep_mono fun c _ => show iprop(rules m K ∗ place c) ⊢ ready m c from by unfold ready; iintro H; iexists K; iexact H))
  isplitl [HR'] <;> iassumption

/-! ## The raises that are owed to a device -/

omit [FloatOps F] in
/-- Device `d` owes device `c` the raise of `c`'s barrier and arrival semaphores if it is the mate, and else nothing. -/
theorem owesAll_at (d c : Dev nD) (k : Fin 3) (hk : k = 0 ∨ k = 2) : owesAll d (cell k c) () = if d = mate c then amt k else 0 := by
  have h (k' : Fin 3) : (tallyAt (cell k' (mate d)) () (amt k') : CellTallies nD τ sig Unit) (cell k c) ()
      = if k = k' ∧ d = mate c then amt k' else 0 := by
    rw [tallyAt_apply]
    refine if_congr ⟨fun e => ?_, fun e => ?_⟩ rfl rfl
    · obtain ⟨e1, e2⟩ := cell_inj e.1
      exact ⟨e1, by rw [e2, mate_mate]⟩
    · rw [e.1, e.2, mate_mate]; exact ⟨rfl, rfl⟩
  unfold owesAll owesCopy
  rw [Pi.add_apply, Finsupp.add_apply, h, h]
  rcases hk with rfl | rfl <;> by_cases hd : d = mate c <;> simp [hd]

omit [FloatOps F] in
/-- So each of these two semaphores is owed its amount in all. -/
theorem credit_at (c : Dev nD) (k : Fin 3) (hk : k = 0 ∨ k = 2) :
    tallyOn (cell k c) (launchCredit (Pipeline.owing owesAll) 0 (cell k c)) = (tallyAt (cell k c) () (amt k) : CellTallies nD τ sig Unit) := by
  unfold tallyAt
  refine congrArg _ (Finsupp.ext fun u => ?_)
  cases u
  rw [Pipeline.launchCredit_owing, Finsupp.single_eq_same, Finset.sum_congr rfl fun d _ => owesAll_at d c k hk,
    Finset.sum_ite_eq' Finset.univ (mate c) fun _ => amt k, if_pos (Finset.mem_univ _)]

omit [FloatOps F] in
theorem credits (c : Dev nD) :
    (Pipeline.launchCred owesAll c : sProp 𝕄) ⊢ iprop(cred (tallyAt (cell 0 c) () (amt 0)) ∗ cred (tallyAt (cell 2 c) () (amt 2))) := by
  unfold Pipeline.launchCred
  rw [bigSep_univ_at _ (sem 0), credit_at c 0 (.inl rfl)]
  refine sep_mono_right ?_
  rw [← credit_at c 2 (.inr rfl)]
  exact bigSep_elim (Finset.mem_erase.mpr ⟨fun h => absurd (sem_inj h) (by decide), Finset.mem_univ (sem 2)⟩)

/-! ## The run -/

theorem start_intro (c : Dev nD) :
    iprop(Pipeline.unscopedRestP Pipeline.Prefetch.none cfg0.spec c (fun b => m ((c : Thread nD τ).loc b)) ∗ levAts lvOn lv
        ∗ Pipeline.launchCred owesAll c ∗ prngReg c (ρ c) ∗ ready m c)
      ⊢ |={Set.univ}=> iprop(start m c ∗ emp) := by
  iintro ⟨-, Hl, Hc, -, Hr⟩
  ihave Hc := (credits (F := F) c) $$ Hc
  icases Hc with ⟨H0, H2⟩
  imodintro
  unfold start ready
  isplitl
  · isplitl [Hr]; · iexact Hr
    isplitl [H0]; · iexact H0
    isplitl [H2] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ inPts
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ inPts
  iintro ⟨Hr, H0, H1, H2⟩
  isplitl [H0]; · iexact H0
  isplitl [H1 H2]; · isplitl [H1] <;> iassumption
  iexists (landed m c); iexact Hr

theorem waits (c : Dev nD) : (levAts lvOn lv : sProp 𝕄) ⊢ Pipeline.cellsWaits cfgs (dats m) () 0 c :=
  Pipeline.cellsWaits_intro cfgs (dats m) () 0 c fun w s t =>
    mayWait_pipeline c _ (by fin_cases w <;> fin_cases s <;> decide) (by fin_cases w <;> fin_cases s <;> decide) _ (by
      rcases t with ⟨_ | _, ht⟩
      · exact Or.inl rfl
      · exact Or.inr rfl)

set_option maxRecDepth 8000 in
/-- Every execution of the program on the 32 devices, from any memory with the semaphores at zero, ends: with the
    arrays of each device at what the block pipeline makes of them, and every semaphore at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := owesAll) (howed₀ := fun _ => rfl) (howedN := fun _ => rfl)
    (L := lvOn) (lv := lv) (hL := lvOn_of_ne) (hwaits := waits m)
    (G := dealt m) (G' := ready m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := all_ready m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is one block: what is staged is all of it. -/
theorem xstg_eq (c : Dev nD) : xstg m c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The result array is one block: it ends as the body's result block. -/
theorem result_eq (c : Dev nD) : (dats m 0 c).arrAt (1 : Fin 2) cfg0.N = outAt m c := by
  have h : (win0_1.blk (0 : Fin 1)).view.read (Elt F) ((dats m 0 c).arrAt (1 : Fin 2) cfg0.N) = outAt m c := by
    rw [show cfg0.N = t₀.val + 1 from N_0, (dats m 0 c).arrAt_succ (1 : Fin 2) t₀, if_pos (flush0_1 t₀)]
    exact View.read_write_univ _ _
  exact (Memref.read_access_unit_zero (Elt F) main_v1
    (show (fun a => (win0_1.index (0 : Fin 1)) a * main_v1.ty.shape.size a) = fun _ => 0 from funext fun a => by fin_cases a <;> decide)
    (fun a => by fin_cases a <;> decide) _).symm.trans h

/-- Every execution of the program on the 32 devices, from any memory with the semaphores at zero, ends: with the
    result array of each device at `outAt`, its argument array unchanged, and every semaphore at zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (result_eq m c),
    (h.1 c (0 : Fin 2)).trans ((dats m 0 c).arrAt_in (0 : Fin 2) rfl _)⟩, h.2⟩) (run_arrays m ρ)

end Cert.Swap

end
-- ==== Proof.Value.lean ====
/-
  What the kernel computes, over the reals: each device's result block is its block of the sum over the two `x` rows.

  The reference is the run of its two operations, `refOut` its result: at `(i, j)` the sum of the two rows' entries
  there. A device of row `x` ends with, at `(i, j)`, its own row's entry at column `256 x + j` plus the other row's entry
  at that column: on row 0 that is the reference's sum as it stands, on row 1 with the two summands exchanged.
-/
module

public import proofs.«01_k».proof.Proof.Launch
public import proofs.«01_k».proof.Proof.Gen.ReferenceIdeal
public import Idealize.ShloMosaic.Lib.StableHlo.Run
public import Idealize.ShloMosaic.Lib.Layout
public import Idealize.ShloMosaic.Lib.IdealHost
public import Idealize.ShloMosaic.Lib.ValueLayout
public import Idealize.ShloMosaic.PureOps.Ideal.Laws
public import Idealize.ShloMosaic.Lib.Pipeline.ValueKit.Geometry

@[expose] public section

noncomputable section

/-! ## The reference's run -/

namespace Cert.Swap.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result: the sum of its argument along the first axis, from zero. -/
def refOut (x : (main_arg0 : Ref sig .tc).ty.Contents (Elt F)) : (main_v0 : Ref sig .tc).ty.Contents (Elt F) :=
  Host.reduceAdd (F := F) (φ := .f32) x (constant S_ .f32 0x00000000#32) reducesTo_S2x256x512_S256x512_d0 h_S_

/-- The reference's two operations. -/
abbrev steps : List (HloOp τ sig (Elt F)) :=
  [ nullary main_cst (constant S_ .f32 0x00000000#32),
    binary main_arg0 main_cst main_v0 (fun x v => Host.reduceAdd (F := F) (φ := .f32) x v reducesTo_S2x256x512_S256x512_d0 h_S_) ]

theorem main_steps (c : Dev nD) : main (F := F) c = seq steps := rfl

theorem steps_bufs : (steps : List (HloOp τ sig (Elt F))).Forall fun op => op.bufs ⊆ tcRefs τ sig :=
  ⟨nullary_bufs_sub .., binary_bufs_sub ..⟩

theorem result_after (V : Valuation τ sig (Elt F)) : after steps V (main_v0 : DevRef τ sig) = refOut (V (main_arg0 : DevRef τ sig)) := by
  after_results
  rfl

theorem arg_after (V : Valuation τ sig (Elt F)) : after steps V (main_arg0 : DevRef τ sig) = V (main_arg0 : DevRef τ sig) := by
  after_results

/-- Every execution of the reference ends, with its result at `refOut` and its argument unchanged. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v0) = refOut (m ((c : Thread nD τ).loc main_arg0))
        ∧ r.2.mem ((c : Thread nD τ).loc main_arg0) = m ((c : Thread nD τ).loc main_arg0) :=
  (θ_run defs _ _).mono (fun _ h c => ⟨(h c main_v0).trans (result_after _), (h c main_arg0).trans (arg_after _)⟩)
    (run_seq (by decide) (by decide) defs main (fun _ => steps) main_steps (fun _ => steps_bufs) m ρ)

open Idealize.ShloMosaic.ValueIdx in
/-- Over the reals, the result at `(i, j)`. -/
theorem refOut_apply (x : (⟨3, ![2, 256, 512]⟩ : Shape).Idx → EReal) (i : Fin 256) (j : Fin 512) :
    refOut (F := Ideal) x (ix2 i j) = x (ix3 0 i j) + x (ix3 1 i j) := by
  unfold refOut
  rw [hostReduceAdd_apply, Ideal.hostReduceAdd_single _ (show S2x256x512.Reduces [0] S256x512 by decide),
    show (constant S_ .f32 0x00000000#32 : FVec Ideal S_ .f32) (Shape.Idx.first h_S_) = 0 from Ideal.ofBits_zero_f32, zero_add]
  refine (Fin.sum_univ_two (M := EReal) _).trans (congrArg₂ (fun a b : EReal => a + b) (congrArg x ?_) (congrArg x ?_)) <;>
  · funext a
    match a with
    | ⟨0, _⟩ => rfl
    | ⟨1, _⟩ => rfl
    | ⟨2, _⟩ => rfl

end Cert.Swap.Ref

/-! ## A device's blocks -/

namespace Cert.Swap

open Cert.KernelIdeal Cert.KernelIdeal.Gen
open Idealize.ShloMosaic Idealize.ShloMosaic.TcCoe Idealize.ShloMosaic.ValueIdx

/-- The device's row, its `x` coordinate. -/
def row (c : Dev nD) : Fin 2 := ⟨c.val / 16, by have : c.val < 32 := c.isLt; omega⟩

theorem row_mate (c : Dev nD) : row (mate c) = 1 - row c := by revert c; decide

/-- A device's block of the argument is its row; -/
theorem argBlock_apply (x : (⟨3, ![2, 256, 512]⟩ : Shape).Idx → EReal) (c : Dev nD) (i : Fin 256) (j : Fin 512) :
    (Layout.blockN ⟨3, ![1, 256, 512]⟩ ⟨3, ![2, 256, 512]⟩ (Layout.meshBlock [2, 4, 4] ![[0], [], []] c) x) (ix3 0 i j) = x (ix3 (row c) i j) := by
  have hc : c.val < 32 := c.isLt
  refine congrArg x (funext fun a => Fin.ext ?_)
  rw [Layout.TilesN.idx_val]
  match a with
  | ⟨0, _⟩ => show (c.val / 16 % 2 * 1 + 0) * 1 + 0 = c.val / 16; omega
  | ⟨1, _⟩ => show 0 * 256 + i.val = i.val; omega
  | ⟨2, _⟩ => show 0 * 512 + j.val = j.val; omega

/-- its block of the result is the half of the columns that its row names. -/
theorem resBlock_apply (v : (⟨2, ![256, 512]⟩ : Shape).Idx → EReal) (c : Dev nD) (i j : Fin 256) (h : 256 * (c.val / 16) + j.val < 512) :
    (Layout.blockN ⟨2, ![256, 256]⟩ ⟨2, ![256, 512]⟩ (Layout.meshBlock [2, 4, 4] ![[], [0]] c) v) (ix2 i j)
      = v (ix2 i ⟨256 * (c.val / 16) + j.val, h⟩) := by
  have hc : c.val < 32 := c.isLt
  refine congrArg v (funext fun a => Fin.ext ?_)
  rw [Layout.TilesN.idx_val]
  match a with
  | ⟨0, _⟩ => show 0 * 256 + i.val = i.val; omega
  | ⟨1, _⟩ => show (c.val / 16 % 2 * 1 + 0) * 256 + j.val = 256 * (c.val / 16) + j.val; omega

/-- A half of a staged block, its unit axis dropped, at `(i, j)`. -/
theorem half_apply (off : Fin 3 → ℕ) (inb : ∀ a, off a + S1x256x256.size a ≤ S1x256x512.size a) (h0 : off 0 = 0) (h1 : off 1 = 0)
    (v : (cc0_stg0_0 : Ref sig .tc).ty.Contents (Elt Ideal)) (i j : Fin 256) (k : Fin 512) (hk : k.val = off 2 + j.val) :
    shapeCast S256x256 ((xM.access (Rect.unit (s := S1x256x512) off S1x256x256.size inb)).read (Elt Ideal) v) shapeCasts_S1x256x256_S256x256 (ix2 i j)
      = v (ix3 0 i k) := by
  refine (shapeCast_1ab_ab_apply ((xM.access (Rect.unit (s := S1x256x512) off S1x256x256.size inb)).read (Elt Ideal) v)
    shapeCasts_S1x256x256_S256x256 i j).trans (congrArg v (funext fun a => Fin.ext ?_))
  refine (ValueKit.view_emb_slice_whole_unit_val cc0_stg0_0 off S1x256x256.size inb _ a).trans ?_
  match a with
  | ⟨0, _⟩ => show off 0 + 0 = 0; rw [h0]
  | ⟨1, _⟩ => show off 1 + i.val = i.val; rw [h1, Nat.zero_add]
  | ⟨2, _⟩ => exact hk.symm

variable (m : (ℓ : Loc nD τ sig) → Buf (Elt Ideal) ℓ)

/-- What a device receives is the mate's row at the device's own columns. -/
theorem landed_apply (c : Dev nD) (i j : Fin 256) (k : Fin 512) (hk : k.val = 256 * (c.val / 16) + j.val) :
    landed m c (ix2 i j) = m ((mate c : Thread nD τ).loc main_arg0) (ix3 0 i k) := by
  rw [← xstg_eq m (mate c)]
  have hc : c.val < 32 := c.isLt
  have hm : 256 - 256 * ((mate c).val / 16) = 256 * (c.val / 16) := by
    show 256 - 256 * ((c.val + 16) % 32 / 16) = 256 * (c.val / 16); omega
  exact half_apply (k0_off1 (mate c)) (k0_off1_inb (mate c)) (by rw [k0_off1_eq]; rfl) (by rw [k0_off1_eq]; rfl) (xstg m (mate c)) i j k
    (by rw [k0_off1_eq]; show k.val = 256 - 256 * ((mate c).val / 16) + j.val; rw [hm, hk])

/-- So the result block is the device's row plus the mate's, at the device's columns. -/
theorem outAt_apply (c : Dev nD) (i j : Fin 256) (k : Fin 512) (hk : k.val = 256 * (c.val / 16) + j.val) :
    outAt m c (ix2 i j)
      = (show EReal from m ((c : Thread nD τ).loc main_arg0) (ix3 0 i k)) + (show EReal from m ((mate c : Thread nD τ).loc main_arg0) (ix3 0 i k)) := by
  have hlt : c.val < 32 := c.isLt
  rw [← landed_apply m c i j k hk, ← xstg_eq m c]
  by_cases hc : c.val < 16
  · rw [outAt_row0 m c hc]
    exact congrArg (· + (landed m c (ix2 i j) : EReal))
      (half_apply ![0, 0, 0] inb_S1x256x512_S1x256x256_0_0_0 rfl rfl (xstg m c) i j k (by show k.val = 0 + j.val; omega))
  · rw [outAt_row1 m c hc]
    exact congrArg (· + (landed m c (ix2 i j) : EReal))
      (half_apply ![0, 0, 256] inb_S1x256x512_S1x256x256_0_0_256 rfl rfl (xstg m c) i j k (by show k.val = 256 + j.val; omega))

/-- If the devices' argument arrays are the blocks of `x`, their result blocks are the blocks of the reference's sum. -/
theorem outAt_eq_block (x : (⟨3, ![2, 256, 512]⟩ : Shape).Idx → EReal)
    (hx : ∀ c : Dev nD, m ((c : Thread nD τ).loc main_arg0)
      = Layout.blockN ⟨3, ![1, 256, 512]⟩ ⟨3, ![2, 256, 512]⟩ (Layout.meshBlock [2, 4, 4] ![[0], [], []] c) x) (c : Dev nD) :
    outAt m c = Layout.blockN ⟨2, ![256, 256]⟩ ⟨2, ![256, 512]⟩ (Layout.meshBlock [2, 4, 4] ![[], [0]] c) (Ref.refOut (F := Ideal) x) := by
  funext q
  obtain ⟨i, j, rfl⟩ : ∃ (i j : Fin 256), q = ix2 i j := ⟨q 0, q 1, eq_ix2 q⟩
  have hk : 256 * (c.val / 16) + j.val < 512 := by have : c.val < 32 := c.isLt; have := j.isLt; omega
  rw [outAt_apply m c i j ⟨_, hk⟩ rfl, hx c, hx (mate c)]
  rw [argBlock_apply, argBlock_apply, row_mate]
  refine Eq.trans ?_ (resBlock_apply (Ref.refOut (F := Ideal) x) c i j hk).symm
  rw [Ref.refOut_apply]
  rcases (show row c = 0 ∨ row c = 1 from by generalize row c = r; revert r; decide) with h | h <;> rw [h]
  · rfl
  · exact add_comm (G := EReal) _ _

end Cert.Swap

end
-- ==== Proof.lean ====
/-
  The certificate: `Cert.Proof.claim` proves `Cert.Claim` (Defs.lean).

  The kernel's run is `Cert.Swap.run_main`, proved once for any float values (Proof/Protocol.lean the exchange between
  the two devices of a pair, Proof/Body.lean one device's body, Proof/Launch.lean the launch and the run). The kernel
  as printed and the idealized one are the same text, so both frame claims are readings of it. The value is
  Proof/Value.lean: a device's result block is its block of the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its argument as it was and every semaphore at zero, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (Cert.Swap.run_main m ρ)

/-- The kernel as printed and the idealized kernel have the same body, -/
theorem same_body : Cert.Kernel.defs₀ (F := Bits) = Cert.KernelIdeal.defs₀ := by
  unfold Cert.Kernel.defs₀ Cert.KernelIdeal.defs₀
  refine congrArg Defs.onTc (funext fun ℓ => funext fun a => ?_)
  fin_cases ℓ
  rfl

/-- and the same program around it; -/
theorem same_program : Cert.Kernel.defs (F := Bits) = Cert.KernelIdeal.defs := congrArg (Pipeline.defs Cert.KernelIdeal.pcfgs) same_body

/-- so this is the frame claim of the kernel as printed, -/
theorem frame_kernel : Cert.quiescent_Kernel := fun m ρ _ => by
  rw [same_program]
  exact frame_any (F := Bits) m ρ

/-- and the idealized kernel's. -/
theorem frame_kernel_ideal : Cert.quiescent_KernelIdeal := fun m ρ _ => frame_any (F := Ideal) m ρ

/-- The reference runs and leaves its argument as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Swap.Ref.run_ref (F := Ideal) m ρ)

/-- Over the reals, the devices' result blocks are the blocks of the reference's sum. -/
theorem value : Cert.algebraic_KernelIdeal_ReferenceIdeal := fun m ρ m' ρ' _ hx =>
  ⟨Cert.Swap.Ref.refOut (F := Ideal) (m' (((0 : Dev Cert.ReferenceIdeal.nD).tc : Thread _ Cert.ReferenceIdeal.τ).loc Cert.ReferenceIdeal.main_arg0)),
    (θ_run Cert.KernelIdeal.defs _ _).mono (fun _ h c => ⟨(h.1 c).1.trans (Cert.Swap.outAt_eq_block m _ hx c), (h.1 c).2⟩)
      (Cert.Swap.run_main (F := Ideal) m ρ),
    (θ_run Cert.ReferenceIdeal.defs _ _).mono (fun _ h => h 0) (Cert.Swap.Ref.run_ref (F := Ideal) m' ρ')⟩

theorem claim : Cert.Claim :=
  ⟨Cert.Kernel.Gen.facts, Cert.KernelIdeal.Gen.facts, Cert.ReferenceIdeal.Gen.facts,
    frame_kernel, frame_kernel_ideal, frame_reference, trivial, value⟩

end Cert.Proof

end
